-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S128x2 : Shape := ⟨2, ![128, 2]⟩
abbrev S2 : Shape := ⟨1, ![2]⟩
abbrev S9x9x31x768 : Shape := ⟨4, ![9, 9, 31, 768]⟩
abbrev S2x2x1x768 : Shape := ⟨4, ![2, 2, 1, 768]⟩
abbrev S2x2x768 : Shape := ⟨3, ![2, 2, 768]⟩
abbrev S_ : Shape := ⟨0, ![]⟩

class Facts : Prop where
  slices_S9x9x31x768_S2x2x1x768_4_4_30_0 : S9x9x31x768.Slices ![4, 4, 30, 0] S2x2x1x768
  shapeCasts_S2x2x1x768_S2x2x768 : S2x2x1x768.ShapeCasts S2x2x768
  bcast_S_S128x2 : S_.BroadcastsInDim S128x2 (![] : Fin 0 → Fin S128x2.rank)
  reducesTo_S128x2_S_d0_1 : S128x2.ReducesTo [0, 1] S_
  h_S_ : 0 < S_.numel
  bcast_S_S2 : S_.BroadcastsInDim S2 (![] : Fin 0 → Fin S2.rank)
  reducesTo_S2_S_d0 : S2.ReducesTo [0] S_
  bcast_S_S2x2x768 : S_.BroadcastsInDim S2x2x768 (![] : Fin 0 → Fin S2x2x768.rank)
  reducesTo_S2x2x768_S_d0_1_2 : S2x2x768.ReducesTo [0, 1, 2] S_

variable [Facts]

def fn_part1 {F : FTy → Type} [FloatOps F] (main_v14 : IVec S_ 1) (main_v16 : IVec S2x2x768 1) : IVec S_ 1 :=
  let main_c_5 : IVec S_ 1 := constantI S_ 1 1#1
  let main_v17 : IVec S_ 1 := (fun x v => Host.reduce IntOp.andi x v reducesTo_S2x2x768_S_d0_1_2 h_S_) main_v16 main_c_5
  let main_v18 : IVec S_ 1 := andi main_v14 main_v17
  main_v18

def fn {F : FTy → Type} [FloatOps F] (main_arg0 : FVec F S128x2 .f32) (main_arg1 : FVec F S2 .f32) (main_arg2 : FVec F S9x9x31x768 .f32) : IVec S_ 1 :=
  let main_v0 : FVec F S2x2x1x768 .f32 := (extractStridedSlice S2x2x1x768 ![4, 4, 30, 0] · slices_S9x9x31x768_S2x2x1x768_4_4_30_0) main_arg2
  let main_v1 : FVec F S2x2x768 .f32 := shapeCast S2x2x768 main_v0 shapeCasts_S2x2x1x768_S2x2x768
  let main_cst : FVec F S_ .f32 := constant S_ .f32 0x00000000#32
  let main_v2 : FVec F S128x2 .f32 := broadcastInDim S128x2 ![] bcast_S_S128x2 main_cst
  let main_v3 : IVec S128x2 1 := cmpf .oge main_arg0 main_v2
  let main_cst_0 : FVec F S_ .f32 := constant S_ .f32 0x3F800000#32
  let main_v4 : FVec F S128x2 .f32 := broadcastInDim S128x2 ![] bcast_S_S128x2 main_cst_0
  let main_v5 : IVec S128x2 1 := cmpf .ole main_arg0 main_v4
  let main_v6 : IVec S128x2 1 := andi main_v3 main_v5
  let main_c : IVec S_ 1 := constantI S_ 1 1#1
  let main_v7 : IVec S_ 1 := (fun x v => Host.reduce IntOp.andi x v reducesTo_S128x2_S_d0_1 h_S_) main_v6 main_c
  let main_cst_1 : FVec F S_ .f32 := constant S_ .f32 0xFF800000#32
  let main_v8 : FVec F S2 .f32 := broadcastInDim S2 ![] bcast_S_S2 main_cst_1
  let main_v9 : IVec S2 1 := cmpf .ogt main_arg1 main_v8
  let main_cst_2 : FVec F S_ .f32 := constant S_ .f32 0x7F800000#32
  let main_v10 : FVec F S2 .f32 := broadcastInDim S2 ![] bcast_S_S2 main_cst_2
  let main_v11 : IVec S2 1 := cmpf .olt main_arg1 main_v10
  let main_v12 : IVec S2 1 := andi main_v9 main_v11
  let main_c_3 : IVec S_ 1 := constantI S_ 1 1#1
  let main_v13 : IVec S_ 1 := (fun x v => Host.reduce IntOp.andi x v reducesTo_S2_S_d0 h_S_) main_v12 main_c_3
  let main_v14 : IVec S_ 1 := andi main_v7 main_v13
  let main_cst_4 : FVec F S_ .f32 := constant S_ .f32 0x7F800000#32
  let main_v15 : FVec F S2x2x768 .f32 := broadcastInDim S2x2x768 ![] bcast_S_S2x2x768 main_cst_4
  let main_v16 : IVec S2x2x768 1 := cmpf .olt main_v1 main_v15
  fn_part1 (F := F) main_v14 main_v16
-- ==== Kernel.lean ====
abbrev S128x2 : Shape := ⟨2, ![128, 2]⟩
abbrev S2 : Shape := ⟨1, ![2]⟩
abbrev S9x9x31x768 : Shape := ⟨4, ![9, 9, 31, 768]⟩
abbrev S1x2 : Shape := ⟨2, ![1, 2]⟩
abbrev S30x768 : Shape := ⟨2, ![30, 768]⟩
abbrev S2x2x31x768 : Shape := ⟨4, ![2, 2, 31, 768]⟩
abbrev S128x1 : Shape := ⟨2, ![128, 1]⟩
abbrev S1x1x31x768 : Shape := ⟨4, ![1, 1, 31, 768]⟩
abbrev S31x768 : Shape := ⟨2, ![31, 768]⟩
abbrev S1x768 : Shape := ⟨2, ![1, 768]⟩
abbrev S128x768 : Shape := ⟨2, ![128, 768]⟩
abbrev S128x128 : Shape := ⟨2, ![128, 128]⟩
abbrev S768 : Shape := ⟨1, ![768]⟩

abbrev nBuf : Space → Nat
  | .hbm => 5
  | .vmem => 4
  | .smem => 0
  | _ => 0

abbrev bufTy : (tb : Table) → Fin (tcTables nBuf tb) → BufTy
  | .hbm, ⟨0, _⟩ => ⟨S128x2, .f32⟩
  | .hbm, ⟨1, _⟩ => ⟨S2, .f32⟩
  | .hbm, ⟨2, _⟩ => ⟨S9x9x31x768, .f32⟩
  | .hbm, ⟨3, _⟩ => ⟨S1x2, .f32⟩
  | .hbm, ⟨4, _⟩ => ⟨S30x768, .f32⟩
  | .local _ .vmem, ⟨0, _⟩ => ⟨S128x2, .f32⟩
  | .local _ .vmem, ⟨1, _⟩ => ⟨S1x2, .f32⟩
  | .local _ .vmem, ⟨2, _⟩ => ⟨S2x2x31x768, .f32⟩
  | .local _ .vmem, ⟨3, _⟩ => ⟨S30x768, .f32⟩
  | _, _ => ⟨S128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x31x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x2 : Shape := ⟨2, ![128, 2]⟩
abbrev S2 : Shape := ⟨1, ![2]⟩
abbrev S9x9x31x768 : Shape := ⟨4, ![9, 9, 31, 768]⟩
abbrev S_ : Shape := ⟨0, ![]⟩
abbrev S128x1 : Shape := ⟨2, ![128, 1]⟩
abbrev S128 : Shape := ⟨1, ![128]⟩
abbrev S128x1x1 : Shape := ⟨3, ![128, 1, 1]⟩
abbrev S81x31x768 : Shape := ⟨3, ![81, 31, 768]⟩
abbrev S1 : Shape := ⟨1, ![1]⟩
abbrev S1x1 : Shape := ⟨2, ![1, 1]⟩
abbrev S128x31x768 : Shape := ⟨3, ![128, 31, 768]⟩
abbrev S128x30x768 : Shape := ⟨3, ![128, 30, 768]⟩
abbrev S128x1x768 : Shape := ⟨3, ![128, 1, 768]⟩
abbrev S128x768 : Shape := ⟨2, ![128, 768]⟩
abbrev S127x2 : Shape := ⟨2, ![127, 2]⟩
abbrev S1x2 : Shape := ⟨2, ![1, 2]⟩
abbrev S30x768 : Shape := ⟨2, ![30, 768]⟩

abbrev nBuf : Space → Nat
  | .hbm => 189
  | .vmem => 0
  | .smem => 0
  | _ => 0

abbrev hbmTy0_0 (i : Nat) : BufTy := match i % 128 with
  | 0 => ⟨S128x2, .f32⟩
  | 1 => ⟨S2, .f32⟩
  | 2 => ⟨S9x9x31x768, .f32⟩
  | 3 => ⟨S_, .f32⟩
  | 4 => ⟨S128x2, .f32⟩
  | 5 => ⟨S128x2, .f32⟩
  | 6 => ⟨S128x1, .f32⟩
  | 7 => ⟨S128, .f32⟩
  | 8 => ⟨S128x1, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x1x1, .f32⟩
  | 16 => ⟨S128, .f32⟩
  | 17 => ⟨S128x1x1, .f32⟩
  | 18 => ⟨S128, .i32⟩
  | 19 => ⟨S128, .i32⟩
  | 20 => ⟨S128, .i32⟩
  | 21 => ⟨S128, .i32⟩
  | 22 => ⟨S81x31x768, .f32⟩
  | 23 => ⟨S_, .i32⟩
  | 24 => ⟨S128, .i32⟩
  | 25 => ⟨S128, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i32⟩
  | 33 => ⟨S128, .i32⟩
  | 34 => ⟨S128x1, .i32⟩
  | 35 => ⟨S1, .i32⟩
  | 36 => ⟨S_, .i32⟩
  | 37 => ⟨S128x1, .i32⟩
  | 38 => ⟨S128x1, .i1⟩
  | 39 => ⟨S1x1, .i32⟩
  | 40 => ⟨S128x1, .i32⟩
  | 41 => ⟨S128x1, .i1⟩
  | 42 => ⟨S128x1, .i1⟩
  | 43 => ⟨S_, .i1⟩
  | 44 => ⟨S128, .i1⟩
  | 45 => ⟨S128x31x768, .f32⟩
  | 46 => ⟨S128x31x768, .i1⟩
  | 47 => ⟨S_, .f32⟩
  | 48 => ⟨S128x31x768, .f32⟩
  | 49 => ⟨S128x31x768, .f32⟩
  | 50 => ⟨S_, .f32⟩
  | 51 => ⟨S128x1x1, .f32⟩
  | 52 => ⟨S128x1x1, .f32⟩
  | 53 => ⟨S128x31x768, .f32⟩
  | 54 => ⟨S128x31x768, .f32⟩
  | 55 => ⟨S_, .i32⟩
  | 56 => ⟨S128, .i32⟩
  | 57 => ⟨S128, .i32⟩
  | 58 => ⟨S128, .i32⟩
  | 59 => ⟨S_, .i32⟩
  | 60 => ⟨S128, .i32⟩
  | 61 => ⟨S128, .i1⟩
  | 62 => ⟨S_, .i32⟩
  | 63 => ⟨S128, .i32⟩
  | 64 => ⟨S128, .i32⟩
  | 65 => ⟨S128, .i32⟩
  | 66 => ⟨S128x1, .i32⟩
  | 67 => ⟨S1, .i32⟩
  | 68 => ⟨S_, .i32⟩
  | 69 => ⟨S128x1, .i32⟩
  | 70 => ⟨S128x1, .i1⟩
  | 71 => ⟨S1x1, .i32⟩
  | 72 => ⟨S128x1, .i32⟩
  | 73 => ⟨S128x1, .i1⟩
  | 74 => ⟨S128x1, .i1⟩
  | 75 => ⟨S_, .i1⟩
  | 76 => ⟨S128, .i1⟩
  | 77 => ⟨S128x31x768, .f32⟩
  | 78 => ⟨S128x31x768, .i1⟩
  | 79 => ⟨S_, .f32⟩
  | 80 => ⟨S128x31x768, .f32⟩
  | 81 => ⟨S128x31x768, .f32⟩
  | 82 => ⟨S128x31x768, .f32⟩
  | 83 => ⟨S128x31x768, .f32⟩
  | 84 => ⟨S128x31x768, .f32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S1, .i32⟩
  | 98 => ⟨S_, .i32⟩
  | 99 => ⟨S128x1, .i32⟩
  | 100 => ⟨S128x1, .i1⟩
  | 101 => ⟨S1x1, .i32⟩
  | 102 => ⟨S128x1, .i32⟩
  | 103 => ⟨S128x1, .i1⟩
  | 104 => ⟨S128x1, .i1⟩
  | 105 => ⟨S_, .i1⟩
  | 106 => ⟨S128, .i1⟩
  | 107 => ⟨S128x31x768, .f32⟩
  | 108 => ⟨S128x31x768, .i1⟩
  | 109 => ⟨S_, .f32⟩
  | 110 => ⟨S128x31x768, .f32⟩
  | 111 => ⟨S128x31x768, .f32⟩
  | 112 => ⟨S_, .f32⟩
  | 113 => ⟨S128x1x1, .f32⟩
  | 114 => ⟨S128x1x1, .f32⟩
  | 115 => ⟨S128x31x768, .f32⟩
  | 116 => ⟨S128x31x768, .f32⟩
  | 117 => ⟨S_, .i32⟩
  | 118 => ⟨S128, .i32⟩
  | 119 => ⟨S128, .i32⟩
  | 120 => ⟨S128, .i32⟩
  | 121 => ⟨S_, .i32⟩
  | 122 => ⟨S128, .i32⟩
  | 123 => ⟨S128, .i1⟩
  | 124 => ⟨S_, .i32⟩
  | 125 => ⟨S128, .i32⟩
  | 126 => ⟨S128, .i32⟩
  | 127 => ⟨S128, .i32⟩
  | _ => ⟨S128x2, .f32⟩

abbrev hbmTy0_1 (i : Nat) : BufTy := match i % 128 with
  | 0 => ⟨S128x1, .i32⟩
  | 1 => ⟨S1, .i32⟩
  | 2 => ⟨S_, .i32⟩
  | 3 => ⟨S128x1, .i32⟩
  | 4 => ⟨S128x1, .i1⟩
  | 5 => ⟨S1x1, .i32⟩
  | 6 => ⟨S128x1, .i32⟩
  | 7 => ⟨S128x1, .i1⟩
  | 8 => ⟨S128x1, .i1⟩
  | 9 => ⟨S_, .i1⟩
  | 10 => ⟨S128, .i1⟩
  | 11 => ⟨S128x31x768, .f32⟩
  | 12 => ⟨S128x31x768, .i1⟩
  | 13 => ⟨S_, .f32⟩
  | 14 => ⟨S128x31x768, .f32⟩
  | 15 => ⟨S128x31x768, .f32⟩
  | 16 => ⟨S128x31x768, .f32⟩
  | 17 => ⟨S128x31x768, .f32⟩
  | 18 => ⟨S128x31x768, .f32⟩
  | 19 => ⟨S_, .f32⟩
  | 20 => ⟨S128x1x1, .f32⟩
  | 21 => ⟨S128x1x1, .f32⟩
  | 22 => ⟨S128x31x768, .f32⟩
  | 23 => ⟨S128x31x768, .f32⟩
  | 24 => ⟨S128x31x768, .f32⟩
  | 25 => ⟨S128x31x768, .f32⟩
  | 26 => ⟨S128x31x768, .f32⟩
  | 27 => ⟨S128x30x768, .f32⟩
  | 28 => ⟨S128x1x768, .f32⟩
  | 29 => ⟨S128x768, .f32⟩
  | 30 => ⟨S_, .f32⟩
  | 31 => ⟨S128x768, .f32⟩
  | 32 => ⟨S128x768, .f32⟩
  | 33 => ⟨S127x2, .f32⟩
  | 34 => ⟨S1x2, .f32⟩
  | 35 => ⟨S128x2, .f32⟩
  | 36 => ⟨S128x2, .f32⟩
  | 37 => ⟨S128x2, .f32⟩
  | 38 => ⟨S_, .f32⟩
  | 39 => ⟨S128, .f32⟩
  | 40 => ⟨S128, .f32⟩
  | 41 => ⟨S128x1, .f32⟩
  | 42 => ⟨S128x768, .f32⟩
  | 43 => ⟨S128x768, .f32⟩
  | 44 => ⟨S_, .f32⟩
  | 45 => ⟨S_, .f32⟩
  | 46 => ⟨S128x768, .f32⟩
  | 47 => ⟨S128x768, .f32⟩
  | 48 => ⟨S128x768, .f32⟩
  | 49 => ⟨S128x768, .f32⟩
  | 50 => ⟨S128x768, .f32⟩
  | 51 => ⟨S128x768, .f32⟩
  | 52 => ⟨S_, .f32⟩
  | 53 => ⟨S128x768, .f32⟩
  | 54 => ⟨S128x768, .f32⟩
  | 55 => ⟨S128x768, .f32⟩
  | 56 => ⟨S128x1x768, .f32⟩
  | 57 => ⟨S128x30x768, .f32⟩
  | 58 => ⟨S128x30x768, .f32⟩
  | 59 => ⟨S_, .f32⟩
  | 60 => ⟨S30x768, .f32⟩
  | _ => ⟨S128x2, .f32⟩

abbrev hbmTy (i : Nat) : BufTy := match i / 128 with
  | 0 => hbmTy0_0 i
  | 1 => hbmTy0_1 i
  | _ => ⟨S128x2, .f32⟩

abbrev bufTy : (tb : Table) → Fin (tcTables nBuf tb) → BufTy
  | .hbm, ⟨i, _⟩ => hbmTy i
  | _, _ => ⟨S128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v22 : Ref sig .tc := ⟨.hbm, 49, rfl⟩
abbrev main_cst_0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_1 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_c_2 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v37 : Ref sig .tc := ⟨.hbm, 111, rfl⟩
abbrev main_cst_3 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_c_4 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_cst_5 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_call4_cst : Ref sig .tc := ⟨.hbm, 158, rfl⟩
abbrev main_call4_v0 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_cst_6 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_call5_call0_cst : Ref sig .tc := ⟨.hbm, 172, rfl⟩
abbrev main_call5_call0_v0 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_cst_7 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_cst_8 : Ref sig .tc := ⟨.hbm, 187, rfl⟩
abbrev main_v82 : Ref sig .tc := ⟨.hbm, 188, rfl⟩

abbrev nD : Nat := 1
abbrev τ : Topo := Topo.v7x

variable {F : FTy → Type} [FloatOps F]
-- ==== Proof.Field.lean ====
/-
  The mathematics of the two programs, free of both: a ray's 128 samples in the unit square, the four corners of the
  cell they lie in, the optical depth of each sample's step, the share of the light each sample keeps, and the equation
  between the two ways to sum. All values are extended reals, as the claim reads floats.
-/
module

public import Idealize.ShloMosaic.Lib.Pointwise

@[expose] public section

noncomputable section

namespace Cert.Proof

open Idealize.ShloMosaic

/-! ## The quantities -/

/-- One coordinate of the sample after sample `n`; after the last sample comes the last point. -/
def following (s : Fin 128 → EReal) (last : EReal) (n : Fin 128) : EReal :=
  if h : n.val < 127 then s ⟨n.val + 1, by omega⟩ else last

/-- The length of the step from sample `n` to the one after it. -/
def stepLen (x y : Fin 128 → EReal) (a b : EReal) (n : Fin 128) : EReal :=
  Ideal.sqrt ((x n - following x a n) * (x n - following x a n) + (y n - following y b n) * (y n - following y b n))

/-- The value at the point `(x, y)` of the unit square that the four corner values `e` interpolate to. -/
def mixed (e : Fin 2 → Fin 2 → EReal) (x y : EReal) : EReal :=
  (1 - x) * (1 - y) * e 0 0 + x * (1 - y) * e 1 0 + (1 - x) * y * e 0 1 + x * y * e 1 1

/-- The optical depth of each step: the interpolated density, cut off at zero, times the step's length. -/
def depth (x y : Fin 128 → EReal) (a b : EReal) (g : Fin 2 → Fin 2 → EReal) (n : Fin 128) : EReal :=
  max (mixed g (x n) (y n)) 0 * stepLen x y a b n

/-- The share of the light that sample `n` keeps, the depths before it summed by a strictly lower triangular mask. -/
def share (t : Fin 128 → EReal) (n : Fin 128) : EReal :=
  Ideal.exp (0 - ∑ i, (if i < n then 1 else 0) * t i) * (1 - Ideal.exp (0 - t n))

/-- The same share, the depths before it as the running sum less the sample's own depth. -/
def shareCum (t : Fin 128 → EReal) (n : Fin 128) : EReal :=
  Ideal.exp (-((∑ i ∈ Finset.Iic n, t i) - t n)) * (1 - Ideal.exp (-t n))

/-- A channel of the ray: each sample's share times the channel's interpolated value there. -/
def rendered (x y : Fin 128 → EReal) (a b : EReal) (g e : Fin 2 → Fin 2 → EReal) : EReal :=
  ∑ n, shareCum (depth x y a b g) n * mixed e (x n) (y n)

/-- The same channel summed corner by corner: each corner's value times the sum of its weighted shares. -/
def composite (x y : Fin 128 → EReal) (a b : EReal) (g e : Fin 2 → Fin 2 → EReal) : EReal :=
  e 0 0 * (∑ n, (1 - x n) * (1 - y n) * share (depth x y a b g) n)
    + e 1 0 * (∑ n, x n * (1 - y n) * share (depth x y a b g) n)
    + e 0 1 * (∑ n, (1 - x n) * y n * share (depth x y a b g) n)
    + e 1 1 * (∑ n, x n * y n * share (depth x y a b g) n)

/-! ## Real values among the extended reals -/

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A nonnegative real distributes over any sum of two. -/
theorem coe_mul_add {r : ℝ} (h : 0 ≤ r) (a b : EReal) : (r : EReal) * (a + b) = r * a + r * b :=
  EReal.left_distrib_of_nonneg_of_ne_top (EReal.coe_nonneg.mpr h) (EReal.coe_ne_top r) a b

/-- A nonnegative sum of two reals distributes over any value, when both are nonnegative. -/
theorem coe_add_mul {r s : ℝ} (hr : 0 ≤ r) (hs : 0 ≤ s) (a : EReal) : ((r + s : ℝ) : EReal) * a = r * a + s * a := by
  rw [EReal.coe_add]
  exact EReal.right_distrib_of_nonneg (EReal.coe_nonneg.mpr hr) (EReal.coe_nonneg.mpr hs)

/-- A finite sum of nonnegative reals times one value: the value times the sum. -/
theorem sum_coe_mul {ι : Type} (s : Finset ι) (f : ι → ℝ) (hf : ∀ i, 0 ≤ f i) (a : EReal) :
    ∑ i ∈ s, (f i : EReal) * a = a * ((∑ i ∈ s, f i : ℝ) : EReal) := by
  classical
  induction s using Finset.induction_on with
  | empty => simp
  | insert i s hi ih =>
    rw [Finset.sum_insert hi, Finset.sum_insert hi, ih, mul_comm a, mul_comm a,
      coe_add_mul (hf i) (Finset.sum_nonneg fun i _ => hf i)]

/-- A value of the unit interval is a real of the unit interval. -/
theorem exists_unit {z : EReal} (h : 0 ≤ z ∧ z ≤ 1) : ∃ r : ℝ, z = r ∧ 0 ≤ r ∧ r ≤ 1 := by
  obtain ⟨h0, h1⟩ := h
  induction z with
  | bot => simp at h0
  | top => exact absurd (lt_of_le_of_lt h1 (EReal.coe_lt_top 1)) (lt_irrefl _)
  | coe r => exact ⟨r, rfl, by exact_mod_cast h0, by exact_mod_cast h1⟩

/-- A value strictly between the infinities is a real. -/
theorem exists_real {z : EReal} (h : ⊥ < z ∧ z < ⊤) : ∃ r : ℝ, z = r :=
  ⟨z.toReal, (EReal.coe_toReal h.2.ne h.1.ne').symm⟩

/-- A nonnegative real times a value below infinity is below infinity. -/
theorem coe_mul_lt_top {r : ℝ} (hr : 0 ≤ r) {z : EReal} (hz : z < ⊤) : (r : EReal) * z < ⊤ := by
  induction z with
  | bot =>
    rcases hr.eq_or_lt with h | h
    · simp [← h]
    · rw [EReal.coe_mul_bot_of_pos h]; exact bot_lt_top
  | top => exact absurd hz (lt_irrefl _)
  | coe s => rw [← EReal.coe_mul]; exact EReal.coe_lt_top _

/-- A value below infinity, cut off at zero, is a nonnegative real. -/
theorem exists_cut {z : EReal} (hz : z < ⊤) : ∃ r : ℝ, max z 0 = r ∧ 0 ≤ r := by
  have h0 : (0 : EReal) ≤ max z 0 := le_max_right _ _
  have h1 : max z 0 < ⊤ := max_lt hz EReal.zero_lt_top
  obtain ⟨r, hr⟩ := exists_real ⟨lt_of_lt_of_le EReal.bot_lt_zero h0, h1⟩
  exact ⟨r, hr, by rw [hr] at h0; exact_mod_cast h0⟩

/-! ## The interpolation -/

/-- At a real point of the unit square the interpolation has nonnegative real weights. -/
theorem mixed_coe (e : Fin 2 → Fin 2 → EReal) (x y : ℝ) : mixed e x y =
    (((1 - x) * (1 - y) : ℝ) : EReal) * e 0 0 + ((x * (1 - y) : ℝ) : EReal) * e 1 0 + (((1 - x) * y : ℝ) : EReal) * e 0 1
      + ((x * y : ℝ) : EReal) * e 1 1 := by
  unfold mixed
  push_cast
  rfl

/-- The interpolation taken along the first axis on both edges, then along the second between them, is the one of the
    four corners. -/
theorem mixed_of_edges (e : Fin 2 → Fin 2 → EReal) {x y : ℝ} (hx : 0 ≤ x ∧ x ≤ 1) (hy : 0 ≤ y ∧ y ≤ 1) :
    (e 0 0 * (1 - (x : EReal)) + e 1 0 * x) * (1 - (y : EReal)) + (e 0 1 * (1 - (x : EReal)) + e 1 1 * x) * y = mixed e x y := by
  have hx' : 0 ≤ 1 - x := by linarith [hx.2]
  have hy' : 0 ≤ 1 - y := by linarith [hy.2]
  have h1 : (1 : EReal) - (x : EReal) = ((1 - x : ℝ) : EReal) := by push_cast; rfl
  have h2 : (1 : EReal) - (y : EReal) = ((1 - y : ℝ) : EReal) := by push_cast; rfl
  rw [mixed_coe, h1, h2, mul_comm _ ((1 - y : ℝ) : EReal), mul_comm _ (y : EReal), coe_mul_add hy', coe_mul_add hy.1]
  simp only [mul_comm (e _ _) _, ← mul_assoc, ← EReal.coe_mul]
  rw [mul_comm (1 - y) (1 - x), mul_comm (1 - y) x, mul_comm y (1 - x), mul_comm y x, ← add_assoc]

/-! ## The depths and the shares -/

/-- Every step of a ray of real points has a nonnegative real length. -/
theorem stepLen_real {x y : Fin 128 → EReal} {a b : EReal} (hx : ∀ n, ∃ r : ℝ, x n = r) (hy : ∀ n, ∃ r : ℝ, y n = r)
    (ha : ∃ r : ℝ, a = r) (hb : ∃ r : ℝ, b = r) (n : Fin 128) : ∃ r : ℝ, stepLen x y a b n = r ∧ 0 ≤ r := by
  have hf : ∀ (s : Fin 128 → EReal) (l : EReal), (∀ n, ∃ r : ℝ, s n = r) → (∃ r : ℝ, l = r) → ∃ r : ℝ, following s l n = r :=
    fun s l hs hl => by unfold following; split; exacts [hs _, hl]
  obtain ⟨p, hp⟩ := hx n
  obtain ⟨q, hq⟩ := hy n
  obtain ⟨p', hp'⟩ := hf x a hx ha
  obtain ⟨q', hq'⟩ := hf y b hy hb
  unfold stepLen
  rw [hp, hq, hp', hq', ← EReal.coe_sub, ← EReal.coe_sub, ← EReal.coe_mul, ← EReal.coe_mul, ← EReal.coe_add, Ideal.sqrt_coe,
    if_neg (not_lt.mpr (add_nonneg (mul_self_nonneg _) (mul_self_nonneg _)))]
  exact ⟨_, rfl, Real.sqrt_nonneg _⟩

/-- Over nonnegative real depths both forms of the share are one nonnegative real. -/
theorem share_real {t : Fin 128 → EReal} (ht : ∀ n, ∃ r : ℝ, t n = r ∧ 0 ≤ r) (n : Fin 128) :
    ∃ r : ℝ, share t n = r ∧ shareCum t n = r ∧ 0 ≤ r := by
  choose τ hτ h0 using ht
  have hmask : ∑ i, (if i < n then 1 else 0) * t i = ((∑ i ∈ Finset.Iio n, τ i : ℝ) : EReal) := by
    rw [← coe_sum, ← Finset.sum_filter_add_sum_filter_not Finset.univ (fun i => i < n)]
    rw [Finset.sum_eq_zero (s := Finset.univ.filter fun i => ¬ i < n) fun i hi => by
      rw [if_neg (Finset.mem_filter.mp hi).2, zero_mul], add_zero]
    refine Finset.sum_congr (by ext i; simp) fun i hi => ?_
    rw [if_pos (Finset.mem_Iio.mp hi), one_mul, hτ]
  have hcum : (∑ i ∈ Finset.Iic n, t i) - t n = ((∑ i ∈ Finset.Iio n, τ i : ℝ) : EReal) := by
    rw [Finset.sum_congr rfl fun i _ => hτ i, coe_sum, hτ n, ← EReal.coe_sub, ← Finset.Iio_insert,
      Finset.sum_insert (by simp)]
    congr 1; ring
  refine ⟨Real.exp (-∑ i ∈ Finset.Iio n, τ i) * (1 - Real.exp (-τ n)), ?_, ?_, ?_⟩
  · unfold share
    rw [hmask, hτ n, zero_sub, zero_sub, ← EReal.coe_neg, ← EReal.coe_neg, Ideal.exp_coe, Ideal.exp_coe]
    push_cast; rfl
  · unfold shareCum
    rw [hcum, hτ n, ← EReal.coe_neg, ← EReal.coe_neg, Ideal.exp_coe, Ideal.exp_coe]
    push_cast; rfl
  · exact mul_nonneg (Real.exp_pos _).le (sub_nonneg.mpr (Real.exp_le_one_iff.mpr (neg_nonpos.mpr (h0 n))))

/-! ## The equation -/

/-- The ray's channel summed sample by sample is the one summed corner by corner: for samples in the unit square, a
    finite last point and corner densities below infinity; the channel's corner values are any extended reals. -/
theorem rendered_eq_composite {x y : Fin 128 → EReal} {a b : EReal} {g : Fin 2 → Fin 2 → EReal} (e : Fin 2 → Fin 2 → EReal)
    (hx : ∀ n, 0 ≤ x n ∧ x n ≤ 1) (hy : ∀ n, 0 ≤ y n ∧ y n ≤ 1) (ha : ⊥ < a ∧ a < ⊤) (hb : ⊥ < b ∧ b < ⊤)
    (hg : ∀ p q, g p q < ⊤) : rendered x y a b g e = composite x y a b g e := by
  have hd : ∀ n, ∃ r : ℝ, depth x y a b g n = r ∧ 0 ≤ r := fun n => by
    obtain ⟨l, hl, hl0⟩ := stepLen_real (fun n => (exists_unit (hx n)).imp fun _ h => h.1)
      (fun n => (exists_unit (hy n)).imp fun _ h => h.1) (exists_real ha) (exists_real hb) n
    obtain ⟨u, hu, hu0, hu1⟩ := exists_unit (hx n)
    obtain ⟨v, hv, hv0, hv1⟩ := exists_unit (hy n)
    have hm : mixed g (x n) (y n) < ⊤ := by
      rw [hu, hv, mixed_coe]
      exact EReal.add_lt_top (EReal.add_lt_top (EReal.add_lt_top
        (coe_mul_lt_top (mul_nonneg (by linarith) (by linarith)) (hg 0 0)).ne
        (coe_mul_lt_top (mul_nonneg hu0 (by linarith)) (hg 1 0)).ne).ne
        (coe_mul_lt_top (mul_nonneg (by linarith) hv0) (hg 0 1)).ne).ne
        (coe_mul_lt_top (mul_nonneg hu0 hv0) (hg 1 1)).ne
    obtain ⟨c, hc, hc0⟩ := exists_cut hm
    exact ⟨c * l, by unfold depth; rw [hc, hl, EReal.coe_mul], mul_nonneg hc0 hl0⟩
  choose q hq hq' hq0 using share_real hd
  choose u hu hu0 hu1 using fun n => exists_unit (hx n)
  choose v hv hv0 hv1 using fun n => exists_unit (hy n)
  have hu1' : ∀ n, 0 ≤ 1 - u n := fun n => by linarith [hu1 n]
  have hv1' : ∀ n, 0 ≤ 1 - v n := fun n => by linarith [hv1 n]
  have hl : ∀ w : Fin 128 → ℝ, (∀ n, 0 ≤ w n) → ∀ c : EReal,
      c * (∑ n, (w n : EReal) * share (depth x y a b g) n) = ∑ n, ((q n * w n : ℝ) : EReal) * c := fun w hw c => by
    rw [sum_coe_mul _ _ (fun n => mul_nonneg (hq0 n) (hw n)), ← coe_sum]
    refine congrArg (c * ·) (Finset.sum_congr rfl fun n _ => ?_)
    rw [hq n, ← EReal.coe_mul, mul_comm]
  have h1 : ∀ r : ℝ, (1 : EReal) - (r : EReal) = ((1 - r : ℝ) : EReal) := fun r => by push_cast; rfl
  unfold rendered composite
  simp only [hu, hv, h1, ← EReal.coe_mul]
  simp only [hq', mixed_coe]
  rw [hl (fun n => (1 - u n) * (1 - v n)) (fun n => mul_nonneg (hu1' n) (hv1' n)),
    hl (fun n => u n * (1 - v n)) (fun n => mul_nonneg (hu0 n) (hv1' n)),
    hl (fun n => (1 - u n) * v n) (fun n => mul_nonneg (hu1' n) (hv0 n)),
    hl (fun n => u n * v n) (fun n => mul_nonneg (hu0 n) (hv0 n)),
    ← Finset.sum_add_distrib, ← Finset.sum_add_distrib, ← Finset.sum_add_distrib]
  refine Finset.sum_congr rfl fun n _ => ?_
  simp only [coe_mul_add (hq0 n), ← mul_assoc, ← EReal.coe_mul]

end Cert.Proof

end
-- ==== Proof.KernelAt.lean ====
/-
  What one run of the kernel's body stores, at a channel and a ray column: the samples' block `x`, the last point's block
  `p` and the four corner cells' block `X` composed as `composite` (Field.lean) says.
-/
module

public import proofs.«01_k».proof.Proof.Gen.KernelIdeal.Skeleton
public import proofs.«01_k».proof.Proof.Field
public import Idealize.ShloMosaic.Lib.StableHlo.Predicate

@[expose] public section

set_option maxRecDepth 16384

noncomputable section

namespace Cert.Proof

open Idealize.ShloMosaic Idealize.ShloMosaic.TcCoe Idealize.SL.Sem
open Cert.KernelIdeal Cert.KernelIdeal.Gen

/-! ## The body's values, one at a time -/

section Values

variable (x : Vec Ideal S128x2 .f32) (p : Vec Ideal S1x2 .f32) (X : Vec Ideal S2x2x31x768 .f32)

/-- The rotated samples, with the last row replaced by the last point, are the samples that follow. -/
theorem rotated_at (n : Fin 128) (h : (n.val + 128 - 127) % 128 < 128) (q : Fin 2) :
    Scalar.select (IntOp.cmpi .slt (BitVec.ofNat 32 n.val) 127#32) (x (ix2 ⟨(n.val + 128 - 127) % 128, h⟩ q)) (p (ix2 0 q))
      = following (fun i => x (ix2 i q)) (p (ix2 0 q)) n := by
  have hc : IntOp.cmpi .slt (BitVec.ofNat 32 n.val) 127#32 = if n.val < 127 then 1#1 else 0#1 := by revert n; decide
  rw [hc]
  unfold following
  by_cases hn : n.val < 127
  · rw [dif_pos hn, if_pos hn]
    have e : (n.val + 128 - 127) % 128 = n.val + 1 := by omega
    simp only [e]
    rfl
  · rw [dif_neg hn, if_neg hn]
    rfl

/-- The body's step lengths. -/
theorem steps_at (n : Fin 128) : k0_pay2 x p (ix2 n 0)
    = stepLen (fun i => x (ix2 i 0)) (fun i => x (ix2 i 1)) (p (ix2 0 0)) (p (ix2 0 1)) n := by
  pointwise [k0_pay2]
  rw [rotated_at, rotated_at]
  rfl

/-- The four weights of a sample. -/
theorem weight00_at (n : Fin 128) : k0_pay5 x (ix2 n 0) = (1 - x (ix2 n 0)) * (1 - x (ix2 n 1)) := by
  pointwise [k0_pay5, k0_pay3, k0_pay4]
theorem weight10_at (n : Fin 128) : k0_pay6 x (ix2 n 0) = x (ix2 n 0) * (1 - x (ix2 n 1)) := by
  pointwise [k0_pay6, k0_pay3, k0_pay4]
theorem weight01_at (n : Fin 128) : k0_pay7 x (ix2 n 0) = (1 - x (ix2 n 0)) * x (ix2 n 1) := by
  pointwise [k0_pay7, k0_pay3, k0_pay4]
theorem weight11_at (n : Fin 128) : k0_pay8 x (ix2 n 0) = x (ix2 n 0) * x (ix2 n 1) := by
  pointwise [k0_pay8, k0_pay3, k0_pay4]

/-- The corner cells' blocks, as the body loads them. -/
abbrev corner00 : Vec Ideal S1x1x31x768 .f32 := View.ld X (Rect.unit ![0, 0, 0, 0] ![1, 1, 31, 768] inb_S2x2x31x768_S1x1x31x768_0_0_0_0)
abbrev corner10 : Vec Ideal S1x1x31x768 .f32 := View.ld X (Rect.unit ![1, 0, 0, 0] ![1, 1, 31, 768] inb_S2x2x31x768_S1x1x31x768_1_0_0_0)
abbrev corner01 : Vec Ideal S1x1x31x768 .f32 := View.ld X (Rect.unit ![0, 1, 0, 0] ![1, 1, 31, 768] inb_S2x2x31x768_S1x1x31x768_0_1_0_0)
abbrev corner11 : Vec Ideal S1x1x31x768 .f32 := View.ld X (Rect.unit ![1, 1, 0, 0] ![1, 1, 31, 768] inb_S2x2x31x768_S1x1x31x768_1_1_0_0)

/-- Each corner's row `k` is the block's. -/
theorem corner00_at (k : Fin 31) (j : Fin 768) : k0_pay9 (corner00 X) (ix2 k j) = X (ix4 0 0 k j) := by
  pointwise [k0_pay9, corner00]
theorem corner10_at (k : Fin 31) (j : Fin 768) : k0_pay10 (corner10 X) (ix2 k j) = X (ix4 1 0 k j) := by
  pointwise [k0_pay10, corner10]
theorem corner01_at (k : Fin 31) (j : Fin 768) : k0_pay11 (corner01 X) (ix2 k j) = X (ix4 0 1 k j) := by
  pointwise [k0_pay11, corner01]
theorem corner11_at (k : Fin 31) (j : Fin 768) : k0_pay12 (corner11 X) (ix2 k j) = X (ix4 1 1 k j) := by
  pointwise [k0_pay12, corner11]

/-- The strictly lower triangular mask's entry, as the body makes it of two row numbers. -/
theorem mask_at (i n : Fin 128) :
    (FloatOps.sitofp .f32 (BitVec.setWidth 32 (IntOp.cmpi .slt (BitVec.ofNat 32 i.val) (BitVec.ofNat 32 n.val))) : Ideal .f32)
      = if i < n then 1 else 0 := by
  have hc : BitVec.setWidth 32 (IntOp.cmpi .slt (BitVec.ofNat 32 i.val) (BitVec.ofNat 32 n.val)) = if i < n then 1#32 else 0#32 := by
    have hi : (BitVec.ofNat 32 i.val).toInt = i.val := StableHlo.Predicate.toInt_ofNat_small _ (by omega)
    have hn : (BitVec.ofNat 32 n.val).toInt = n.val := StableHlo.Predicate.toInt_ofNat_small _ (by omega)
    unfold IntOp.cmpi
    simp only [BitVec.slt, hi, hn, Nat.cast_lt, Fin.val_fin_lt]
    by_cases h : i < n <;> simp [h]
  rw [hc]
  show (((if i < n then 1#32 else 0#32 : BitVec 32).toInt : ℝ) : EReal) = _
  split <;> simp

/-- The shares the body computes of each sample and column. -/
abbrev shares : FVec Ideal S128x768 .f32 :=
  k0_pay13 (k0_pay2 x p) (k0_pay5 x) (k0_pay6 x) (k0_pay7 x) (k0_pay8 x) (k0_pay9 (corner00 X)) (k0_pay10 (corner10 X))
    (k0_pay11 (corner01 X)) (corner11 X)

/-- The depths of a column's steps. -/
abbrev depths (j : Fin 768) : Fin 128 → EReal :=
  depth (fun i => x (ix2 i 0)) (fun i => x (ix2 i 1)) (p (ix2 0 0)) (p (ix2 0 1)) (fun r s => X (ix4 r s 30 j))

/-- The body's shares of the light are the field's. -/
theorem shares_at (n : Fin 128) (j : Fin 768) : shares x p X (ix2 n j) = share (depths x p X j) n := by
  have h11 : ∀ j, (corner11 X) (ix4 0 0 30 j) = X (ix4 1 1 30 j) := fun j => by pointwise [corner11]
  unfold shares
  generalize hd : k0_pay2 x p = d
  generalize hw0 : k0_pay5 x = w0
  generalize hw1 : k0_pay6 x = w1
  generalize hw2 : k0_pay7 x = w2
  generalize hw3 : k0_pay8 x = w3
  generalize he0 : k0_pay9 (corner00 X) = e0
  generalize he1 : k0_pay10 (corner10 X) = e1
  generalize he2 : k0_pay11 (corner01 X) = e2
  generalize corner11 X = e3 at h11
  pointwise [k0_pay13, k0_pay12]
  simp only [mask_at, h11]
  subst hd hw0 hw1 hw2 hw3 he0 he1 he2
  simp only [steps_at, weight00_at, weight10_at, weight01_at, weight11_at, corner00_at, corner10_at, corner01_at]
  rfl

end Values

/-! ## The stored block -/

/-- What one run of the body stores. -/
def stored (x : Vec Ideal S128x2 .f32) (p : Vec Ideal S1x2 .f32) (X : Vec Ideal S2x2x31x768 .f32) : FVec Ideal S30x768 .f32 :=
  k0_pay1 (k0_pay8 x) (k0_pay9 (corner00 X)) (k0_pay10 (corner10 X)) (k0_pay11 (corner01 X)) (k0_pay12 (corner11 X))
    (shares x p X)
    (k0_pay14 (k0_pay2 x p) (k0_pay5 x) (k0_pay6 x) (k0_pay7 x) (k0_pay8 x) (k0_pay9 (corner00 X)) (k0_pay10 (corner10 X))
      (k0_pay11 (corner01 X)) (corner11 X))
    (k0_pay15 (k0_pay2 x p) (k0_pay5 x) (k0_pay6 x) (k0_pay7 x) (k0_pay8 x) (k0_pay9 (corner00 X)) (k0_pay10 (corner10 X))
      (k0_pay11 (corner01 X)) (corner11 X))
    (k0_pay16 (k0_pay2 x p) (k0_pay5 x) (k0_pay6 x) (k0_pay7 x) (k0_pay8 x) (k0_pay9 (corner00 X)) (k0_pay10 (corner10 X))
      (k0_pay11 (corner01 X)) (corner11 X))

/-- The stored block at channel `k` and column `j` is the channel summed corner by corner. -/
theorem stored_at (x : Vec Ideal S128x2 .f32) (p : Vec Ideal S1x2 .f32) (X : Vec Ideal S2x2x31x768 .f32) (k : Fin 30) (j : Fin 768) :
    stored x p X (ix2 k j) = composite (fun i => x (ix2 i 0)) (fun i => x (ix2 i 1)) (p (ix2 0 0)) (p (ix2 0 1))
      (fun r s => X (ix4 r s 30 j)) (fun r s => X (ix4 r s ⟨k.val, by omega⟩ j)) := by
  have hs := shares_at x p X
  unfold stored k0_pay14 k0_pay15 k0_pay16
  unfold shares at *
  generalize k0_pay13 (k0_pay2 x p) (k0_pay5 x) (k0_pay6 x) (k0_pay7 x) (k0_pay8 x) (k0_pay9 (corner00 X)) (k0_pay10 (corner10 X))
      (k0_pay11 (corner01 X)) (corner11 X) = v at hs ⊢
  generalize hw0 : k0_pay5 x = w0
  generalize hw1 : k0_pay6 x = w1
  generalize hw2 : k0_pay7 x = w2
  generalize hw3 : k0_pay8 x = w3
  generalize he0 : k0_pay9 (corner00 X) = e0
  generalize he1 : k0_pay10 (corner10 X) = e1
  generalize he2 : k0_pay11 (corner01 X) = e2
  generalize he3 : k0_pay12 (corner11 X) = e3
  pointwise [k0_pay1]
  simp only [hs]
  subst hw0 hw1 hw2 hw3 he0 he1 he2 he3
  simp only [weight00_at, weight10_at, weight01_at, weight11_at, corner00_at, corner10_at, corner01_at, corner11_at]
  rfl

end Cert.Proof

end
-- ==== Proof.KernelArray.lean ====
/-
  What the kernel's result array holds after its run, as a function of the three arguments alone.
-/
module

public import proofs.«01_k».proof.Proof.Gen.KernelIdeal.Value
public import proofs.«01_k».proof.Proof.KernelAt
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arguments, as tables -/

/-- The samples a device is launched with. -/
abbrev samples : Vec Ideal S128x2 .f32 := m ((c.tc : Thread nD τ).loc main_arg0)
/-- The last point. -/
abbrev lastPoint : Vec Ideal S2 .f32 := m ((c.tc : Thread nD τ).loc main_arg1)
/-- The grid's embeddings. -/
abbrev embeddings : Vec Ideal S9x9x31x768 .f32 := m ((c.tc : Thread nD τ).loc main_arg2)

/-! ## The blocks the body is given -/

/-- The windows' block positions: only the corner cells' block is displaced, to cell (4, 4). -/
theorem idx0 : ∀ t : Fin cfg0.N, win0_0.index t = ![0, 0] ∧ win0_1.index t = ![0, 0] ∧ win0_2.index t = ![2, 2, 0, 0]
    ∧ win0_3.index t = ![0, 0] := by
  decide +kernel

/-- The first block is the samples. -/
theorem block0_at (t : Fin cfg0.N) (i : Fin 128) (q : Fin 2) : iblk m c 0 t (ix2 i q) = samples m c (ix2 i q) := by
  blk_ext [iblk, V, idx0 t]

/-- The second block is the last point, as one row. -/
theorem block1_at (t : Fin cfg0.N) (q : Fin 2) : iblk m c 1 t (ix2 0 q) = lastPoint m c (ix1 q) := by
  have hV : V m c main_v0 = broadcastInDim S1x2 ![1] bcast_S2_S1x2_1 (lastPoint m c) := by
    unfold V
    entry_read
    rfl
  have hr : iblk m c 1 t (ix2 0 q) = V m c main_v0 (ix2 0 q) := by
    unfold iblk
    show V m c main_v0 _ = V m c main_v0 _
    blk_ext [idx0 t]
  rw [hr, hV]
  pointwise

/-- The third block is the grid's four cells from (4, 4) on. -/
theorem block2_at (t : Fin cfg0.N) (r s : Fin 2) (k : Fin 31) (j : Fin 768) :
    X0_2 m c t (ix4 r s k j) = embeddings m c (ix4 ⟨4 + r.val, by omega⟩ ⟨4 + s.val, by omega⟩ k j) := by
  unfold X0_2 Pipeline.Window.fill
  rw [dif_pos (moved0_2 t _)]
  blk_ext [iblk, V, idx0 t]

/-! ## The array -/

/-- The result at channel `k` and column `j`: the ray's channel summed corner by corner. -/
def channel (k : Fin 30) (j : Fin 768) : EReal :=
  composite (fun n => samples m c (ix2 n 0)) (fun n => samples m c (ix2 n 1)) (lastPoint m c (ix1 0)) (lastPoint m c (ix1 1))
    (fun r s => embeddings m c (ix4 ⟨4 + r.val, by omega⟩ ⟨4 + s.val, by omega⟩ 30 j))
    (fun r s => embeddings m c (ix4 ⟨4 + r.val, by omega⟩ ⟨4 + s.val, by omega⟩ ⟨k.val, by omega⟩ j))

/-- The result array. -/
def result : S30x768.Idx → EReal := fun i => channel m c (i 0) (i 1)

/-- The block the body stores at the grid's one point is the whole result. -/
theorem stored_result (t : Fin cfg0.N) : stored (iblk m c 0 t) (iblk m c 1 t) (X0_2 m c t) = result m c := by
  funext y
  idx_vars y
  rw [stored_at]
  simp only [block0_at, block1_at, block2_at]
  rfl

/-- The result array after the run. -/
theorem array_eq : (dats m 0 c).arrAt 3 cfg0.N = result m c := by
  refine (dats m 0 c).arrAt_eq_of_covers 3 _ (by decide +kernel) fun t hf y => ?_
  blk_simp
  rw [after0_3]
  unfold outsAt0
  frame_out
  refine (congrFun (stored_result m c t) y).trans (congrArg (result m c) ?_)
  blk_ext [idx0 t]

end Cert.Proof

end
-- ==== Proof.Cell.lean ====
/-
  One coordinate of a sample inside its grid cell. The reference moves a coordinate of the unit interval by four, takes
  the grid lines at or below and at or above it as 32-bit words, and interpolates between them. At either end of the
  interval the two lines are one and the same.
-/
module

public import Idealize.ShloMosaic.Lib.Pointwise

@[expose] public section

noncomputable section

namespace Cert.Proof

open Idealize.ShloMosaic

/-- The f32 constant by which the samples are moved is four. -/
theorem four_f32 : Ideal.ofBits .f32 0x40800000#32 = ((4 : ℝ) : EReal) := by
  simp [Ideal.ofBits, Ideal.ieee, -EReal.coe_mul]
  norm_num

/-- The word of a grid line: the number `4 + l`, with `l` zero or one, turned to a 32-bit integer. -/
theorem word_of_line (l : Fin 2) : Ideal.fptosi 32 (((4 + l.val : ℤ) : ℝ) : EReal) = BitVec.ofNat 32 (4 + l.val) := by
  unfold Ideal.fptosi
  rw [Ideal.toIntClamped_coe]
  fin_cases l <;> simp

/-- A coordinate `z` of the unit interval: the grid lines `4 + l` below and `4 + h` above, the offset `d` from the lower
    one, and what the interpolation between the two lines' values comes to. -/
theorem cell_of_unit {z : ℝ} (hz : 0 ≤ z ∧ z ≤ 1) : ∃ (l h : Fin 2) (d : ℝ),
    Ideal.fptosi 32 (Ideal.liftRound Int.floor ((z : EReal) + Ideal.ofBits .f32 0x40800000#32)) = BitVec.ofNat 32 (4 + l.val)
    ∧ Ideal.fptosi 32 (Ideal.liftRound Int.ceil ((z : EReal) + Ideal.ofBits .f32 0x40800000#32)) = BitVec.ofNat 32 (4 + h.val)
    ∧ (z : EReal) + Ideal.ofBits .f32 0x40800000#32 - Ideal.liftRound Int.floor ((z : EReal) + Ideal.ofBits .f32 0x40800000#32) = d
    ∧ ∀ f : Fin 2 → EReal, f l * (1 - (d : EReal)) + f h * d = f 0 * (1 - (z : EReal)) + f 1 * z := by
  rw [four_f32, ← EReal.coe_add, Ideal.liftRound_coe, Ideal.liftRound_coe]
  suffices key : ∃ l h : Fin 2, ⌊z + 4⌋ = (4 + l.val : ℤ) ∧ ⌈z + 4⌉ = (4 + h.val : ℤ) ∧
      ∀ f : Fin 2 → EReal, f l * (1 - ((z - l.val : ℝ) : EReal)) + f h * ((z - l.val : ℝ) : EReal) = f 0 * (1 - (z : EReal)) + f 1 * z by
    obtain ⟨l, h, hl, hh, hf⟩ := key
    refine ⟨l, h, z - l.val, by rw [hl]; exact word_of_line l, by rw [hh]; exact word_of_line h, ?_, hf⟩
    rw [hl, ← EReal.coe_sub]
    congr 1
    push_cast
    ring
  obtain ⟨h0, h1⟩ := hz
  rcases h0.eq_or_lt with h0 | h0
  · subst h0
    exact ⟨0, 0, by norm_num, by norm_num, fun f => by simp⟩
  rcases h1.eq_or_lt with h1 | h1
  · subst h1
    refine ⟨1, 1, by rw [Int.floor_eq_iff]; norm_num, by rw [Int.ceil_eq_iff]; norm_num, fun f => ?_⟩
    have h : (1 : EReal) - 1 = 0 := by rw [← EReal.coe_one, ← EReal.coe_sub]; simp
    simp [h]
  · refine ⟨0, 1, ?_, ?_, fun f => by simp⟩
    · rw [Int.floor_eq_iff]
      constructor <;> norm_num <;> linarith
    · rw [Int.ceil_eq_iff]
      constructor <;> norm_num <;> linarith

end Cert.Proof

end
-- ==== Proof.HostOps.lean ====
/-
  Two of the reference's operations read at one index: the lookup of the table's rows, and the running sum along the ray.
-/
module

public import proofs.«01_k».proof.Proof.Gen.ReferenceIdeal
public import Idealize.ShloMosaic.Lib.Pointwise
public import Idealize.ShloMosaic.Lib.StableHlo.Predicate

@[expose] public section

set_option maxRecDepth 16384

noncomputable section

namespace Cert.Proof

open Idealize.ShloMosaic Idealize.ShloMosaic.TcCoe Idealize.SL.Sem
open Cert.ReferenceIdeal Cert.ReferenceIdeal.Gen

/-- The lookup of row `b` of the flattened table: where sample `n`'s index word is `b`, its entry `(k, j)` is the table's. -/
theorem lookup_at (x : FVec Ideal S81x31x768 .f32) (idx : IVec S128x1 32) (n : Fin 128) (k : Fin 31) (j : Fin 768) (b : Fin 81)
    (hb : idx (ix2 n 0) = BitVec.ofNat 32 b.val) :
    Host.gather gather_S81x31x768_S128x1_S128x31x768_12_0_n_n_0_1_131768 x idx (ix3 n k j) = x (ix3 b k j) := by
  have hs : gather_S81x31x768_S128x1_S128x31x768_12_0_n_n_0_1_131768.siIdx (ix3 n k j) ⟨0, by decide⟩ = ix2 n 0 := by
    funext a
    match a with
    | ⟨0, _⟩ => rfl
    | ⟨1, _⟩ => rfl
  have hb' : (idx (ix2 n 0)).toInt.toNat = b.val := by
    rw [hb, StableHlo.Predicate.toInt_ofNat_small _ (by omega), Int.toNat_natCast]
  unfold Host.gather
  refine congrArg x (funext fun a => Fin.ext ?_)
  match a with
  | ⟨0, _⟩ =>
    show min (idx (gather_S81x31x768_S128x1_S128x31x768_12_0_n_n_0_1_131768.siIdx (ix3 n k j) ⟨0, by decide⟩)).toInt.toNat 80 + 0 + 0 = b.val
    rw [hs, hb']
    omega
  | ⟨1, _⟩ =>
    show 0 + 0 + k.val = k.val
    omega
  | ⟨2, _⟩ =>
    show 0 + 0 + j.val = j.val
    omega

/-- A left fold that adds one term per position is the start plus the sum of the terms. -/
theorem foldl_add {N : ℕ} (f : Fin N → EReal) (v : EReal) (l : List (Fin N)) :
    l.foldl (fun r n => r + f n) v = v + (l.map f).sum := by
  induction l generalizing v with
  | nil => simp
  | cons a l ih => rw [List.foldl_cons, ih, List.map_cons, List.sum_cons, add_assoc]

/-- A window of 128 rows that ends at row `n`, the rows before the first left out, sums the rows up to `n`. -/
theorem sum_window_upto (f : Fin 128 → EReal) (n : Fin 128) :
    (∑ a : Fin 128, if h : 127 ≤ n.val + a.val ∧ n.val + a.val - 127 < 128 then f ⟨n.val + a.val - 127, h.2⟩ else 0)
      = ∑ i ∈ Finset.Iic n, f i := by
  rw [← Finset.sum_filter_add_sum_filter_not Finset.univ (fun a : Fin 128 => 127 ≤ n.val + a.val)]
  rw [Finset.sum_eq_zero (s := Finset.univ.filter fun a : Fin 128 => ¬ 127 ≤ n.val + a.val) fun a ha => by
    rw [dif_neg fun h => (Finset.mem_filter.mp ha).2 h.1], add_zero]
  refine Finset.sum_bij' (fun a _ => ⟨n.val + a.val - 127, by omega⟩) (fun i hi => ⟨i.val + 127 - n.val, by
    have : i.val ≤ n.val := Fin.le_def.mp (Finset.mem_Iic.mp hi)
    omega⟩) (fun a ha => Finset.mem_Iic.mpr (Fin.mk_le_of_le_val (by omega))) (fun i hi => Finset.mem_filter.mpr ⟨Finset.mem_univ _, by
      show 127 ≤ n.val + (i.val + 127 - n.val)
      omega⟩) (fun a ha => ?_) (fun i hi => ?_) (fun a ha => ?_)
  · have := (Finset.mem_filter.mp ha).2
    exact Fin.ext (by show n.val + a.val - 127 + 127 - n.val = a.val; omega)
  · have : i.val ≤ n.val := Fin.le_def.mp (Finset.mem_Iic.mp hi)
    exact Fin.ext (by show n.val + (i.val + 127 - n.val) - 127 = i.val; omega)
  · rw [dif_pos ⟨(Finset.mem_filter.mp ha).2, by omega⟩]

/-- The running sum along the ray: entry `(n, j)` is the sum of the column's entries up to `n`. -/
theorem running_at (x : FVec Ideal S128x768 .f32) (init : FVec Ideal S_ .f32) (hi : init ix0 = 0)
    (n : Fin 128) (j : Fin 768) :
    Host.reduceWindowAdd ![128, 1] ![1, 1] ![127, 0] ![0, 0] x init reduceWindows_S128x768_S128x768_w128s1p127_0_w1s1p0_0 h_S_ (ix2 n j)
      = ∑ i ∈ Finset.Iic n, x (ix2 i j) := by
  have hv : init (Shape.Idx.first h_S_) = 0 := (congrArg init (Subsingleton.elim _ _)).trans hi
  let g : (⟨2, ![128, 1]⟩ : Shape).Idx → EReal := fun w =>
    if h : 127 ≤ n.val + (w 0).val ∧ n.val + (w 0).val - 127 < 128 then x (ix2 ⟨n.val + (w 0).val - 127, h.2⟩ j) else 0
  have hfold : Host.reduceWindowAdd ![128, 1] ![1, 1] ![127, 0] ![0, 0] x init
        reduceWindows_S128x768_S128x768_w128s1p127_0_w1s1p0_0 h_S_ (ix2 n j)
      = (List.finRange (⟨2, ![128, 1]⟩ : Shape).numel).foldl
          (fun r i => r + g ((⟨2, ![128, 1]⟩ : Shape).rowMajor.symm i)) 0 := by
    show Host.reduceWindow (· + ·) ![128, 1] ![1, 1] ![127, 0] ![0, 0] x
      (fun _ : (⟨0, ![]⟩ : Shape).Idx => init (Shape.Idx.first h_S_)) reduceWindows_S128x768_S128x768_w128s1p127_0_w1s1p0_0
      (by decide) (ix2 n j) = _
    unfold Host.reduceWindow
    rw [hv]
    refine congrArg (fun f => List.foldl f 0 _) (funext fun r => funext fun i => congrArg (r + ·) ?_)
    let w : (⟨2, ![128, 1]⟩ : Shape).Idx := (⟨2, ![128, 1]⟩ : Shape).rowMajor.symm i
    have hw : (w 1).val = 0 := by have : (w 1).val < 1 := (w 1).isLt; omega
    by_cases h : 127 ≤ n.val + (w 0).val ∧ n.val + (w 0).val - 127 < 128
    · have hin : ∀ a : Fin 2, (![127, 0] : Fin 2 → ℕ) a ≤ (ix2 n j a).val * (![1, 1] : Fin 2 → ℕ) a + (w a).val
          ∧ (ix2 n j a).val * (![1, 1] : Fin 2 → ℕ) a + (w a).val - (![127, 0] : Fin 2 → ℕ) a < S128x768.size a := fun a => by
        match a with
        | ⟨0, _⟩ => show 127 ≤ n.val * 1 + (w 0).val ∧ n.val * 1 + (w 0).val - 127 < 128; omega
        | ⟨1, _⟩ => show 0 ≤ j.val * 1 + (w 1).val ∧ j.val * 1 + (w 1).val - 0 < 768; omega
      refine (dif_pos hin).trans ((congrArg x (funext fun a => Fin.ext ?_)).trans (show g w = _ from dif_pos h).symm)
      match a with
      | ⟨0, _⟩ => show n.val * 1 + (w 0).val - 127 = n.val + (w 0).val - 127; omega
      | ⟨1, _⟩ => show j.val * 1 + (w 1).val - 0 = j.val; omega
    · refine (dif_neg fun hin => h ?_).trans (show g w = 0 from dif_neg h).symm
      have h0 : 127 ≤ n.val * 1 + (w 0).val ∧ n.val * 1 + (w 0).val - 127 < 128 := hin 0
      omega
  rw [hfold, foldl_add, zero_add, ← Fin.sum_univ_def,
    Equiv.sum_comp (⟨2, ![128, 1]⟩ : Shape).rowMajor.symm g, sum_idx2, ← sum_window_upto (fun i => x (ix2 i j)) n]
  refine Finset.sum_congr rfl fun a _ => ?_
  rw [Fin.sum_univ_one]
  rfl

end Cert.Proof

end
-- ==== Proof.ReferenceAt.lean ====
/-
  The reference's arrays read at one index: the four table rows of a sample, the value interpolated between them, the
  step to the next sample, and the optical depth.
-/
module

public import proofs.«01_k».proof.Proof.Gen.ReferenceIdeal.Run
public import proofs.«01_k».proof.Proof.Field
public import proofs.«01_k».proof.Proof.Cell
public import proofs.«01_k».proof.Proof.HostOps
public import Idealize.ShloMosaic.Lib.Tactic.CleanTypes

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value

variable (V : Valuation τ sig (Elt Ideal))

/-! ## The arguments and the arrays between, as tables -/

/-- The samples. -/
abbrev refSamples : FVec Ideal S128x2 .f32 := V (Proc.devRef .tc main_arg0)
/-- The last point. -/
abbrev refLast : FVec Ideal S2 .f32 := V (Proc.devRef .tc main_arg1)
/-- The grid's embeddings. -/
abbrev refTable : FVec Ideal S9x9x31x768 .f32 := V (Proc.devRef .tc main_arg2)
/-- The first coordinates, moved. -/
abbrev movedX : FVec Ideal S128 .f32 := res_main_v3 V
/-- The second coordinates, moved. -/
abbrev movedY : FVec Ideal S128 .f32 := res_main_v5 V
/-- The embeddings, one row per grid point. -/
abbrev flatTable : FVec Ideal S81x31x768 .f32 := res_main_v18 V
/-- The interpolated embeddings. -/
abbrev refEmb : FVec Ideal S128x31x768 .f32 := res_main_v55 V
/-- The steps between samples. -/
abbrev refStep : FVec Ideal S128x2 .f32 := res_main_v63 V
/-- The optical depths. -/
abbrev refDepth : FVec Ideal S128x768 .f32 := res_main_v69 V

/-! ## Words and rows -/

/-- The row of the flattened table that holds grid point `(4 + a, 4 + b)`. -/
def rowOf (a b : Fin 2) : Fin 81 := ⟨9 * (4 + a.val) + (4 + b.val), by omega⟩

/-- The row number computed on 32-bit words from those of the two grid lines; it is never negative, so the wrap-around
    correction leaves it. -/
def rowWord (p q : BitVec 32) : BitVec 32 :=
  Scalar.select (IntOp.cmpi .slt (IntOp.addi (IntOp.muli p 9#32) q) 0#32) (IntOp.addi (IntOp.addi (IntOp.muli p 9#32) q) 81#32)
    (IntOp.addi (IntOp.muli p 9#32) q)

/-- The row word of two grid lines is the row's number. -/
theorem rowWord_eq : ∀ a b : Fin 2, rowWord (BitVec.ofNat 32 (4 + a.val)) (BitVec.ofNat 32 (4 + b.val)) = BitVec.ofNat 32 (rowOf a b).val := by
  decide

/-- A lookup guarded by its index being in range. -/
def picked (x : FVec Ideal S81x31x768 .f32) (idx : IVec S128x1 32) (n : Fin 128) (k : Fin 31) (j : Fin 768) : EReal :=
  Scalar.select (Finset.fold IntOp.andi (1#1) (fun p : Fin 1 => IntOp.andi (IntOp.cmpi .sge (idx (ix2 n p)) 0#32) (IntOp.cmpi .sle (idx (ix2 n p)) 80#32)) Finset.univ)
    (Host.gather gather_S81x31x768_S128x1_S128x31x768_12_0_n_n_0_1_131768 x idx (ix3 n k j)) (Ideal.ofBits .f32 2143289344#32)

/-- The words of the rows in use are in range. -/
theorem inRange : ∀ a b : Fin 2, IntOp.andi (IntOp.andi (IntOp.cmpi .sge (BitVec.ofNat 32 (rowOf a b).val) 0#32) (IntOp.cmpi .sle (BitVec.ofNat 32 (rowOf a b).val) 80#32)) (1#1) = 1#1 := by
  decide

/-- The flattened table's row of a grid point holds that grid point's embeddings. -/
theorem flat_at (a b : Fin 2) (k : Fin 31) (j : Fin 768) :
    flatTable V (ix3 (rowOf a b) k j) = refTable V (ix4 ⟨4 + a.val, by omega⟩ ⟨4 + b.val, by omega⟩ k j) := by
  unfold flatTable res_main_v18
  clean_types
  pointwise [rowOf]
  exact congrArg (refTable V) (by
    congr 1
    · exact Fin.ext (by show (9 * (4 + a.val) + (4 + b.val)) / 9 = 4 + a.val; omega)
    · exact Fin.ext (by show (9 * (4 + a.val) + (4 + b.val)) % 9 = 4 + b.val; omega))

/-- The guarded lookup at a row in use is the table's entry. -/
theorem picked_at (idx : IVec S128x1 32) (n : Fin 128) (k : Fin 31) (j : Fin 768) (a b : Fin 2)
    (h : idx (ix2 n 0) = BitVec.ofNat 32 (rowOf a b).val) :
    picked (flatTable V) idx n k j = refTable V (ix4 ⟨4 + a.val, by omega⟩ ⟨4 + b.val, by omega⟩ k j) := by
  unfold picked
  rw [Finset.univ_unique, Finset.fold_singleton, lookup_at _ idx n k j (rowOf a b) h, flat_at]
  show Scalar.select (IntOp.andi (IntOp.andi (IntOp.cmpi .sge (idx (ix2 n 0)) 0#32) (IntOp.cmpi .sle (idx (ix2 n 0)) 80#32)) (1#1)) _ _ = _
  rw [h, inRange]
  rfl

/-! ## The coordinates -/

/-- A first coordinate is moved by four. -/
theorem movedX_at (n : Fin 128) : movedX V (ix1 n) = refSamples V (ix2 n 0) + Ideal.ofBits .f32 0x40800000#32 := by
  unfold movedX res_main_v3 res_main_v1
  clean_types
  pointwise

/-- A second coordinate is moved by four. -/
theorem movedY_at (n : Fin 128) : movedY V (ix1 n) = refSamples V (ix2 n 1) + Ideal.ofBits .f32 0x40800000#32 := by
  unfold movedY res_main_v5 res_main_v1
  clean_types
  pointwise

/-- The word of the grid line at or below the first coordinate. -/
theorem lowX_at (n : Fin 128) : (res_main_v14 V : IVec S128 32) (ix1 n) = Ideal.fptosi 32 (Ideal.liftRound Int.floor (movedX V (ix1 n))) := by
  unfold res_main_v14 res_main_v6
  clean_types
  pointwise
  rfl

/-- The word of the grid line at or above the first coordinate. -/
theorem highX_at (n : Fin 128) : (res_main_v15 V : IVec S128 32) (ix1 n) = Ideal.fptosi 32 (Ideal.liftRound Int.ceil (movedX V (ix1 n))) := by
  unfold res_main_v15
  clean_types
  pointwise
  rfl

/-- The word of the grid line at or below the second coordinate. -/
theorem lowY_at (n : Fin 128) : (res_main_v16 V : IVec S128 32) (ix1 n) = Ideal.fptosi 32 (Ideal.liftRound Int.floor (movedY V (ix1 n))) := by
  unfold res_main_v16 res_main_v8
  clean_types
  pointwise
  rfl

/-- The word of the grid line at or above the second coordinate. -/
theorem highY_at (n : Fin 128) : (res_main_v17 V : IVec S128 32) (ix1 n) = Ideal.fptosi 32 (Ideal.liftRound Int.ceil (movedY V (ix1 n))) := by
  unfold res_main_v17
  clean_types
  pointwise
  rfl

/-- The first coordinate's offset from the line below it. -/
theorem offX_at (n : Fin 128) : (res_main_v11 V : FVec Ideal S128x1x1 .f32) (ix3 n 0 0) = movedX V (ix1 n) - Ideal.liftRound Int.floor (movedX V (ix1 n)) := by
  unfold res_main_v11 res_main_v6
  clean_types
  pointwise

/-- The second coordinate's offset from the line below it. -/
theorem offY_at (n : Fin 128) : (res_main_v13 V : FVec Ideal S128x1x1 .f32) (ix3 n 0 0) = movedY V (ix1 n) - Ideal.liftRound Int.floor (movedY V (ix1 n)) := by
  unfold res_main_v13 res_main_v8
  clean_types
  pointwise

/-! ## The four rows of a sample -/

/-- The row word of the corner low in both coordinates. -/
theorem lowLow_at (n : Fin 128) : (res_main_call2_v5 V : IVec S128x1 32) (ix2 n 0)
    = rowWord ((res_main_v14 V : IVec S128 32) (ix1 n)) ((res_main_v16 V : IVec S128 32) (ix1 n)) := by
  unfold res_main_call2_v5 res_main_v36 rowWord
  clean_types
  pointwise

/-- The row word of the corner high in the first coordinate alone. -/
theorem highLow_at (n : Fin 128) : (res_main_call3_v5 V : IVec S128x1 32) (ix2 n 0)
    = rowWord ((res_main_v15 V : IVec S128 32) (ix1 n)) ((res_main_v16 V : IVec S128 32) (ix1 n)) := by
  unfold res_main_call3_v5 res_main_v44 rowWord
  clean_types
  pointwise

/-- The row word of the corner high in the second coordinate alone. -/
theorem lowHigh_at (n : Fin 128) : (res_main_call0_v5 V : IVec S128x1 32) (ix2 n 0)
    = rowWord ((res_main_v14 V : IVec S128 32) (ix1 n)) ((res_main_v17 V : IVec S128 32) (ix1 n)) := by
  unfold res_main_call0_v5 res_main_v21 rowWord
  clean_types
  pointwise

/-- The row word of the corner high in both coordinates. -/
theorem highHigh_at (n : Fin 128) : (res_main_call1_v5 V : IVec S128x1 32) (ix2 n 0)
    = rowWord ((res_main_v15 V : IVec S128 32) (ix1 n)) ((res_main_v17 V : IVec S128 32) (ix1 n)) := by
  unfold res_main_call1_v5 res_main_v29 rowWord
  clean_types
  pointwise

/-- The interpolated embeddings, from the four guarded lookups and the two offsets. -/
theorem emb_at (n : Fin 128) (k : Fin 31) (j : Fin 768) : refEmb V (ix3 n k j)
    = (picked (flatTable V) (res_main_call2_v5 V) n k j * (1 - (res_main_v11 V : FVec Ideal S128x1x1 .f32) (ix3 n 0 0))
        + picked (flatTable V) (res_main_call3_v5 V) n k j * (res_main_v11 V : FVec Ideal S128x1x1 .f32) (ix3 n 0 0))
        * (1 - (res_main_v13 V : FVec Ideal S128x1x1 .f32) (ix3 n 0 0))
      + (picked (flatTable V) (res_main_call0_v5 V) n k j * (1 - (res_main_v11 V : FVec Ideal S128x1x1 .f32) (ix3 n 0 0))
        + picked (flatTable V) (res_main_call1_v5 V) n k j * (res_main_v11 V : FVec Ideal S128x1x1 .f32) (ix3 n 0 0))
        * (res_main_v13 V : FVec Ideal S128x1x1 .f32) (ix3 n 0 0) := by
  unfold refEmb res_main_v55 picked
  clean_types
  pointwise

/-- The step from a sample to the one after it, along one axis. -/
theorem step_at (n : Fin 128) (q : Fin 2) : refStep V (ix2 n q)
    = refSamples V (ix2 n q) - following (fun i => refSamples V (ix2 i q)) (refLast V (ix1 q)) n := by
  unfold refStep res_main_v63 following
  clean_types
  pointwise
  simp only [Nat.add_comm 1 n.val]

/-- The optical depth: the density, cut off at zero, times the step's length. -/
theorem depth_at (n : Fin 128) (j : Fin 768) : refDepth V (ix2 n j)
    = max (refEmb V (ix3 n 30 j)) 0 * Ideal.sqrt (refStep V (ix2 n 0) * refStep V (ix2 n 0) + refStep V (ix2 n 1) * refStep V (ix2 n 1)) := by
  unfold refDepth res_main_v69
  clean_types
  pointwise
  rw [Fin.sum_univ_two]

/-! ## The arrays as the quantities of the field -/

/-- A channel's or the density's four corner values at column `j`. -/
abbrev refCorners (k : Fin 31) (j : Fin 768) (r s : Fin 2) : EReal :=
  refTable V (ix4 ⟨4 + r.val, by omega⟩ ⟨4 + s.val, by omega⟩ k j)

/-- The interpolated embeddings, for samples in the unit square. -/
theorem emb_eq (hs : ∀ n q, 0 ≤ refSamples V (ix2 n q) ∧ refSamples V (ix2 n q) ≤ 1) (n : Fin 128) (k : Fin 31) (j : Fin 768) :
    refEmb V (ix3 n k j) = mixed (refCorners V k j) (refSamples V (ix2 n 0)) (refSamples V (ix2 n 1)) := by
  obtain ⟨x, hx, hx1⟩ := exists_unit (hs n 0)
  obtain ⟨y, hy, hy1⟩ := exists_unit (hs n 1)
  obtain ⟨l, h, d, hl, hh, hd, hf⟩ := cell_of_unit hx1
  obtain ⟨l', h', d', hl', hh', hd', hf'⟩ := cell_of_unit hy1
  rw [emb_at, offX_at, offY_at, movedX_at, movedY_at, hx, hy, hd, hd',
    picked_at V _ n k j l l' (by rw [lowLow_at, lowX_at, lowY_at, movedX_at, movedY_at, hx, hy, hl, hl', rowWord_eq]),
    picked_at V _ n k j h l' (by rw [highLow_at, highX_at, lowY_at, movedX_at, movedY_at, hx, hy, hh, hl', rowWord_eq]),
    picked_at V _ n k j l h' (by rw [lowHigh_at, lowX_at, highY_at, movedX_at, movedY_at, hx, hy, hl, hh', rowWord_eq]),
    picked_at V _ n k j h h' (by rw [highHigh_at, highX_at, highY_at, movedX_at, movedY_at, hx, hy, hh, hh', rowWord_eq])]
  rw [← mixed_of_edges _ hx1 hy1, ← hf' fun s => refCorners V k j 0 s * (1 - (x : EReal)) + refCorners V k j 1 s * x]
  exact congrArg₂ (fun p q => p * (1 - (d' : EReal)) + q * d') (hf fun r => refCorners V k j r l') (hf fun r => refCorners V k j r h')

/-- The optical depths, for samples in the unit square. -/
theorem depth_eq (hs : ∀ n q, 0 ≤ refSamples V (ix2 n q) ∧ refSamples V (ix2 n q) ≤ 1) (n : Fin 128) (j : Fin 768) :
    refDepth V (ix2 n j) = depth (fun n => refSamples V (ix2 n 0)) (fun n => refSamples V (ix2 n 1)) (refLast V (ix1 0)) (refLast V (ix1 1))
      (refCorners V 30 j) n := by
  rw [depth_at, emb_eq V hs, step_at, step_at]
  rfl

end Cert.Proof

end
-- ==== Proof.ReferenceSum.lean ====
/-
  The reference's result: each sample's share of the light times its interpolated embedding, summed along the ray.
-/
module

public import proofs.«01_k».proof.Proof.ReferenceAt

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value

variable (V : Valuation τ sig (Elt Ideal))

/-- The running sums of the depths along the ray. -/
abbrev runningDepth : FVec Ideal S128x768 .f32 :=
  Host.reduceWindowAdd ![128, 1] ![1, 1] ![127, 0] ![0, 0] (refDepth V) (broadcastInDim S_ ![] bcast_S_S_ (constant S_ .f32 0x00000000#32)) reduceWindows_S128x768_S128x768_w128s1p127_0_w1s1p0_0 h_S_

/-- The result array as the reference composes it of its running sums, depths and interpolated embeddings. -/
abbrev refResult : FVec Ideal S30x768 .f32 :=
  Host.reduceAdd (mulf (broadcastInDim S128x30x768 ![0, 1, 2] bcast_S128x1x768_S128x30x768_0_1_2 (broadcastInDim S128x1x768 ![0, 2] bcast_S128x768_S128x1x768_0_2 (mulf (Host.exp (Host.negf (subf (runningDepth V) (refDepth V)))) (subf (broadcastInDim S128x768 ![] bcast_S_S128x768 (constant S_ .f32 0x3F800000#32)) (Host.exp (Host.negf (refDepth V))))))) (extractStridedSlice S128x30x768 ![0, 0, 0] (refEmb V) slices_S128x31x768_S128x30x768_0_0_0)) (constant S_ .f32 0x00000000#32) reducesTo_S128x30x768_S30x768_d0 h_S_

/-- A running sum is the sum of the depths up to its sample. -/
theorem running_depth_at (n : Fin 128) (j : Fin 768) : runningDepth V (ix2 n j) = ∑ i ∈ Finset.Iic n, refDepth V (ix2 i j) :=
  running_at _ _ (by pointwise) n j

/-- One entry of the result: the sum over the samples. -/
theorem refResult_at (k : Fin 30) (j : Fin 768) : refResult V (ix2 k j)
    = ∑ n : Fin 128, Ideal.exp (-(runningDepth V (ix2 n j) - refDepth V (ix2 n j))) * (1 - Ideal.exp (-refDepth V (ix2 n j)))
        * refEmb V (ix3 n ⟨k.val, by omega⟩ j) := by
  unfold refResult
  generalize runningDepth V = R
  clean_types
  pointwise

/-- The reference's result is the field's channel, for samples in the unit square. -/
theorem refResult_eq (hs : ∀ n q, 0 ≤ refSamples V (ix2 n q) ∧ refSamples V (ix2 n q) ≤ 1) (k : Fin 30) (j : Fin 768) :
    refResult V (ix2 k j) = rendered (fun n => refSamples V (ix2 n 0)) (fun n => refSamples V (ix2 n 1)) (refLast V (ix1 0)) (refLast V (ix1 1))
      (refCorners V 30 j) (refCorners V ⟨k.val, by omega⟩ j) := by
  rw [refResult_at]
  simp only [running_depth_at, depth_eq V hs, emb_eq V hs]
  rfl

end Cert.Proof

end
-- ==== Proof.Inputs.lean ====
/-
  What the precondition says of the arguments, entry by entry: the samples lie in the unit square, the last point is
  finite, and the four densities in use are below +inf.
-/
module

public import proofs.«01_k».proof.Proof.Gen.Pre_inputs
public import Idealize.ShloMosaic.Lib.Pointwise
public import Idealize.ShloMosaic.Lib.ReduceAll
public import Idealize.ShloMosaic.Lib.StableHlo.Predicate

@[expose] public section

set_option maxRecDepth 16384

noncomputable section

namespace Cert.Proof

open Idealize.ShloMosaic Idealize.ShloMosaic.TcCoe Idealize.SL.Sem
open Cert.Pre_inputs Cert.Pre_inputs.Gen

/-- The f32 pattern of minus infinity. -/
theorem bot_f32 : Ideal.ofBits .f32 0xFF800000#32 = ⊥ := by
  simp [Ideal.ofBits, Ideal.ieee]

/-- The f32 pattern of plus infinity. -/
theorem top_f32 : Ideal.ofBits .f32 0x7F800000#32 = ⊤ := by
  simp [Ideal.ofBits, Ideal.ieee]

/-- A truth value printed as one bit, read back. -/
theorem of_bit {q : Prop} [Decidable q] (h : BitVec.ofBool (decide q) = 1#1) : q := by
  by_contra hq
  rw [decide_eq_false hq] at h
  exact absurd h (by decide)

/-- The precondition, entry by entry. -/
theorem inputs_hold (x : FVec Ideal S128x2 .f32) (p : FVec Ideal S2 .f32) (e : FVec Ideal S9x9x31x768 .f32)
    (h : Cert.Pre_inputs.fn (F := Ideal) x p e = fun _ => 1#1) :
    (∀ n q, 0 ≤ x (ix2 n q) ∧ x (ix2 n q) ≤ 1) ∧ (∀ q, ⊥ < p (ix1 q) ∧ p (ix1 q) < ⊤)
      ∧ ∀ (r s : Fin 2) (j : Fin 768), e (ix4 ⟨4 + r.val, by omega⟩ ⟨4 + s.val, by omega⟩ 30 j) < ⊤ := by
  have h0 := congrFun h ix0
  unfold Cert.Pre_inputs.fn Cert.Pre_inputs.fn_part1 at h0
  obtain ⟨h1, he⟩ := IntOp.andi_eq_one.mp h0
  obtain ⟨hx, hp⟩ := IntOp.andi_eq_one.mp h1
  refine ⟨fun n q => ?_, fun q => ?_, fun r s j => ?_⟩
  · have t := Host.reduce_andi_all _ _ _ _ _ hx (ix2 n q)
    revert t
    pointwise
    exact fun t => (IntOp.andi_eq_one.mp t).imp of_bit of_bit
  · have t := Host.reduce_andi_all _ _ _ _ _ hp (ix1 q)
    revert t
    pointwise
    rw [bot_f32, top_f32]
    exact fun t => (IntOp.andi_eq_one.mp t).imp of_bit of_bit
  · have t := Host.reduce_andi_all _ _ _ _ _ he (ix3 r s j)
    revert t
    pointwise
    rw [top_f32]
    exact of_bit

end Cert.Proof

end
-- ==== Proof.lean ====
/-
  The certificate: the frames of the three programs, and the equation between the kernel's result and the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_inputs
public import Idealize.ShloMosaic.Adequacy
public import Idealize.ShloMosaic.Init
public import Idealize.ShloMosaic.Lib.Quiescent
public import proofs.«01_k».proof.Proof.KernelArray
public import proofs.«01_k».proof.Proof.ReferenceSum
public import proofs.«01_k».proof.Proof.Inputs

@[expose] public section

set_option maxRecDepth 16384

noncomputable section

namespace Cert.Proof

open Idealize.ShloMosaic Idealize.ShloMosaic.TcCoe Idealize.SL.Sem

/-- The reference runs, leaves its arguments as they were and every semaphore at zero, from any memory. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The equation: where the two programs are given the same arguments and the precondition holds of them, the reference's
    result is the kernel's. -/
theorem results_agree (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (h0 : refSamples V = samples m c) (h1 : refLast V = lastPoint m c) (h2 : refTable V = embeddings m c)
    (hpre : Cert.Pre_inputs.fn (F := Ideal) (samples m c) (lastPoint m c) (embeddings m c) = fun _ => 1#1) :
    refResult V = result m c := by
  obtain ⟨hs, hl, he⟩ := inputs_hold _ _ _ hpre
  funext i
  idx_vars i
  rw [refResult_eq V (by rw [h0]; exact hs)]
  unfold refCorners
  rw [h0, h1, h2]
  exact rendered_eq_composite _ (fun n => hs n 0) (fun n => hs n 1) (hl 0) (hl 1) (fun r s => he r s _)

/-- Every claim of the certificate. -/
theorem claim : Cert.Claim :=
  ⟨Cert.Kernel.Gen.facts, Cert.KernelIdeal.Gen.facts, Cert.ReferenceIdeal.Gen.facts, Cert.Pre_inputs.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    fun m g m' g' hpre hagree => ⟨fun c => result m c,
      (θ_run Cert.KernelIdeal.defs _ _).mono (fun r h c => ⟨(h c).1.trans (array_eq m c), (h c).2⟩)
        (Cert.KernelIdeal.Value.run_blocks (F := Ideal) m g),
      (θ_run Cert.ReferenceIdeal.defs _ _).mono
        (fun r h c => ⟨(h c).1.trans (results_agree m c (StableHlo.launchContents m' c) (hagree c).1 (hagree c).2.1 (hagree c).2.2 (hpre c)), (h c).2⟩)
        (Cert.ReferenceIdeal.Value.run (F := Ideal) m' g')⟩⟩

end Cert.Proof

end
